-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg [hPre_nonneg : Cert.Pre_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg [hPre_nonneg : Cert.Pre_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_nonneg [hKernelIdeal : Cert.KernelIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_nonneg [hReferenceIdeal : Cert.ReferenceIdeal.Facts] [hPre_nonneg : Cert.Pre_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_nonneg [hKernelIdeal : Cert.KernelIdeal.Facts] [hReferenceIdeal : Cert.ReferenceIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_nonneg : Cert.Pre_nonneg.Facts),
    quiescent_Kernel (hKernel := hKernel)
    ∧ quiescent_KernelIdeal (hKernelIdeal := hKernelIdeal)
    ∧ quiescent_KernelIdeal_pre_nonneg (hKernelIdeal := hKernelIdeal) (hPre_nonneg := hPre_nonneg)
    ∧ quiescent_ReferenceIdeal (hReferenceIdeal := hReferenceIdeal)
    ∧ quiescent_ReferenceIdeal_pre_nonneg (hReferenceIdeal := hReferenceIdeal) (hPre_nonneg := hPre_nonneg)
    ∧ preserves_Kernel_KernelIdeal
    ∧ algebraic_KernelIdeal_ReferenceIdeal_pre_nonneg (hKernelIdeal := hKernelIdeal) (hReferenceIdeal := hReferenceIdeal) (hPre_nonneg := hPre_nonneg)
-- ==== Pre_nonneg.lean ====
abbrev S64x128x4000 : Shape := ⟨3, ![64, 128, 4000]⟩
abbrev S_ : Shape := ⟨0, ![]⟩

class Facts : Prop where
  bcast_S_S64x128x4000 : S_.BroadcastsInDim S64x128x4000 (![] : Fin 0 → Fin S64x128x4000.rank)
  reducesTo_S64x128x4000_S_d0_1_2 : S64x128x4000.ReducesTo [0, 1, 2] S_
  h_S_ : 0 < S_.numel

variable [Facts]

def fn {F : FTy → Type} [FloatOps F] (main_arg0 : FVec F S64x128x4000 .f32) : IVec S_ 1 :=
  let main_cst : FVec F S_ .f32 := constant S_ .f32 0x00000000#32
  let main_v0 : FVec F S64x128x4000 .f32 := broadcastInDim S64x128x4000 ![] bcast_S_S64x128x4000 main_cst
  let main_v1 : IVec S64x128x4000 1 := cmpf .oge main_arg0 main_v0
  let main_c : IVec S_ 1 := constantI S_ 1 1#1
  let main_v2 : IVec S_ 1 := (fun x v => Host.reduce IntOp.andi x v reducesTo_S64x128x4000_S_d0_1_2 h_S_) main_v1 main_c
  main_v2
-- ==== Kernel.lean ====
abbrev S64x128x4000 : Shape := ⟨3, ![64, 128, 4000]⟩
abbrev S64x4000x128 : Shape := ⟨3, ![64, 4000, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S128x256 : Shape := ⟨2, ![128, 256]⟩
abbrev S8x4000x128 : Shape := ⟨3, ![8, 4000, 128]⟩
abbrev S1x128x128 : Shape := ⟨3, ![1, 128, 128]⟩
abbrev S256x128 : Shape := ⟨2, ![256, 128]⟩
abbrev S1x32x128 : Shape := ⟨3, ![1, 32, 128]⟩
abbrev S32x128 : Shape := ⟨2, ![32, 128]⟩
abbrev S96x128 : Shape := ⟨2, ![96, 128]⟩

abbrev nBuf : Space → Nat
  | .hbm => 47
  | .vmem => 5
  | .smem => 0
  | _ => 0

abbrev bufTy : (tb : Table) → Fin (tcTables nBuf tb) → BufTy
  | .hbm, ⟨0, _⟩ => ⟨S64x128x4000, .f32⟩
  | .hbm, ⟨1, _⟩ => ⟨S64x4000x128, .f32⟩
  | .hbm, ⟨2, _⟩ => ⟨S128, .i32⟩
  | .hbm, ⟨3, _⟩ => ⟨S128x1, .i32⟩
  | .hbm, ⟨4, _⟩ => ⟨S1x128, .i32⟩
  | .hbm, ⟨5, _⟩ => ⟨S128x128, .i32⟩
  | .hbm, ⟨6, _⟩ => ⟨S128x128, .i32⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i1⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S128x128, .f32⟩
  | .hbm, ⟨15, _⟩ => ⟨S_, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S_, .f32⟩
  | .hbm, ⟨20, _⟩ => ⟨S128x128, .f32⟩
  | .hbm, ⟨21, _⟩ => ⟨S128x128, .f32⟩
  | .hbm, ⟨22, _⟩ => ⟨S_, .f32⟩
  | .hbm, ⟨23, _⟩ => ⟨S_, .f32⟩
  | .hbm, ⟨24, _⟩ => ⟨S128x128, .f32⟩
  | .hbm, ⟨25, _⟩ => ⟨S128x128, .f32⟩
  | .hbm, ⟨26, _⟩ => ⟨S1x128, .i32⟩
  | .hbm, ⟨27, _⟩ => ⟨S_, .i32⟩
  | .hbm, ⟨28, _⟩ => ⟨S1x128, .i32⟩
  | .hbm, ⟨29, _⟩ => ⟨S1x128, .i1⟩
  | .hbm, ⟨30, _⟩ => ⟨S128x1, .i32⟩
  | .hbm, ⟨31, _⟩ => ⟨S128x1, .f32⟩
  | .hbm, ⟨32, _⟩ => ⟨S_, .f32⟩
  | .hbm, ⟨33, _⟩ => ⟨S128x1, .f32⟩
  | .hbm, ⟨34, _⟩ => ⟨S128x1, .f32⟩
  | .hbm, ⟨35, _⟩ => ⟨S_, .f32⟩
  | .hbm, ⟨36, _⟩ => ⟨S128x1, .f32⟩
  | .hbm, ⟨37, _⟩ => ⟨S128x1, .f32⟩
  | .hbm, ⟨38, _⟩ => ⟨S_, .f32⟩
  | .hbm, ⟨39, _⟩ => ⟨S128x128, .i1⟩
  | .hbm, ⟨40, _⟩ => ⟨S128x128, .f32⟩
  | .hbm, ⟨41, _⟩ => ⟨S128x128, .f32⟩
  | .hbm, ⟨42, _⟩ => ⟨S128x128, .f32⟩
  | .hbm, ⟨43, _⟩ => ⟨S128x128, .f32⟩
  | .hbm, ⟨44, _⟩ => ⟨S128x256, .f32⟩
  | .hbm, ⟨45, _⟩ => ⟨S64x4000x128, .f32⟩
  | .hbm, ⟨46, _⟩ => ⟨S64x128x4000, .f32⟩
  | .local _ .vmem, ⟨0, _⟩ => ⟨S8x4000x128, .f32⟩
  | .local _ .vmem, ⟨1, _⟩ => ⟨S8x4000x128, .f32⟩
  | .local _ .vmem, ⟨2, _⟩ => ⟨S128x256, .f32⟩
  | .local _ .vmem, ⟨3, _⟩ => ⟨S8x4000x128, .f32⟩
  | .local _ .vmem, ⟨4, _⟩ => ⟨S8x4000x128, .f32⟩
  | _, _ => ⟨S64x128x4000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S64x128x4000 : Shape := ⟨3, ![64, 128, 4000]⟩
abbrev S4000x64x128 : Shape := ⟨3, ![4000, 64, 128]⟩
abbrev S_ : Shape := ⟨0, ![]⟩
abbrev S64x128 : Shape := ⟨2, ![64, 128]⟩
abbrev S1x64x128 : Shape := ⟨3, ![1, 64, 128]⟩

abbrev nBuf : Space → Nat
  | .hbm => 47
  | .vmem => 0
  | .smem => 0
  | _ => 0

abbrev bufTy : (tb : Table) → Fin (tcTables nBuf tb) → BufTy
  | .hbm, ⟨0, _⟩ => ⟨S64x128x4000, .f32⟩
  | .hbm, ⟨1, _⟩ => ⟨S4000x64x128, .f32⟩
  | .hbm, ⟨2, _⟩ => ⟨S_, .f32⟩
  | .hbm, ⟨3, _⟩ => ⟨S64x128, .f32⟩
  | .hbm, ⟨4, _⟩ => ⟨S_, .f32⟩
  | .hbm, ⟨5, _⟩ => ⟨S4000x64x128, .f32⟩
  | .hbm, ⟨6, _⟩ => ⟨S_, .i32⟩
  | .hbm, ⟨7, _⟩ => ⟨S4000x64x128, .f32⟩
  | .hbm, ⟨8, _⟩ => ⟨S_, .i32⟩
  | .hbm, ⟨9, _⟩ => ⟨S64x128, .f32⟩
  | .hbm, ⟨10, _⟩ => ⟨S4000x64x128, .f32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S1x64x128, .f32⟩
  | .hbm, ⟨16, _⟩ => ⟨S64x128, .f32⟩
  | .hbm, ⟨17, _⟩ => ⟨S_, .f32⟩
  | .hbm, ⟨18, _⟩ => ⟨S64x128, .f32⟩
  | .hbm, ⟨19, _⟩ => ⟨S64x128, .f32⟩
  | .hbm, ⟨20, _⟩ => ⟨S_, .f32⟩
  | .hbm, ⟨21, _⟩ => ⟨S64x128, .f32⟩
  | .hbm, ⟨22, _⟩ => ⟨S64x128, .f32⟩
  | .hbm, ⟨23, _⟩ => ⟨S64x128, .f32⟩
  | .hbm, ⟨24, _⟩ => ⟨S_, .f32⟩
  | .hbm, ⟨25, _⟩ => ⟨S64x128, .f32⟩
  | .hbm, ⟨26, _⟩ => ⟨S64x128, .f32⟩
  | .hbm, ⟨27, _⟩ => ⟨S_, .f32⟩
  | .hbm, ⟨28, _⟩ => ⟨S64x128, .f32⟩
  | .hbm, ⟨29, _⟩ => ⟨S64x128, .f32⟩
  | .hbm, ⟨30, _⟩ => ⟨S64x128, .f32⟩
  | .hbm, ⟨31, _⟩ => ⟨S_, .f32⟩
  | .hbm, ⟨32, _⟩ => ⟨S64x128, .f32⟩
  | .hbm, ⟨33, _⟩ => ⟨S64x128, .f32⟩
  | .hbm, ⟨34, _⟩ => ⟨S_, .f32⟩
  | .hbm, ⟨35, _⟩ => ⟨S64x128, .f32⟩
  | .hbm, ⟨36, _⟩ => ⟨S64x128, .f32⟩
  | .hbm, ⟨37, _⟩ => ⟨S_, .f32⟩
  | .hbm, ⟨38, _⟩ => ⟨S64x128, .f32⟩
  | .hbm, ⟨39, _⟩ => ⟨S64x128, .f32⟩
  | .hbm, ⟨40, _⟩ => ⟨S1x64x128, .f32⟩
  | .hbm, ⟨41, _⟩ => ⟨S_, .i32⟩
  | .hbm, ⟨42, _⟩ => ⟨S_, .i32⟩
  | .hbm, ⟨43, _⟩ => ⟨S4000x64x128, .f32⟩
  | .hbm, ⟨44, _⟩ => ⟨S_, .i32⟩
  | .hbm, ⟨45, _⟩ => ⟨S_, .i32⟩
  | .hbm, ⟨46, _⟩ => ⟨S64x128x4000, .f32⟩
  | _, _ => ⟨S64x128x4000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_c : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_while0c_c_4 : Ref sig .tc := ⟨.hbm, 11, rfl⟩
abbrev main_while0c_v5 : Ref sig .tc := ⟨.hbm, 12, rfl⟩
abbrev main_while0b_call0_c : Ref sig .tc := ⟨.hbm, 13, rfl⟩
abbrev main_while0b_call0_c_0 : Ref sig .tc := ⟨.hbm, 14, rfl⟩
abbrev main_while0b_call0_v0 : Ref sig .tc := ⟨.hbm, 15, rfl⟩
abbrev main_while0b_v5 : Ref sig .tc := ⟨.hbm, 16, rfl⟩
abbrev main_while0b_cst_4 : Ref sig .tc := ⟨.hbm, 17, rfl⟩
abbrev main_while0b_v6 : Ref sig .tc := ⟨.hbm, 18, rfl⟩
abbrev main_while0b_v7 : Ref sig .tc := ⟨.hbm, 19, rfl⟩
abbrev main_while0b_cst_5 : Ref sig .tc := ⟨.hbm, 20, rfl⟩
abbrev main_while0b_v8 : Ref sig .tc := ⟨.hbm, 21, rfl⟩
abbrev main_while0b_v9 : Ref sig .tc := ⟨.hbm, 22, rfl⟩
abbrev main_while0b_v10 : Ref sig .tc := ⟨.hbm, 23, rfl⟩
abbrev main_while0b_cst_6 : Ref sig .tc := ⟨.hbm, 24, rfl⟩
abbrev main_while0b_v11 : Ref sig .tc := ⟨.hbm, 25, rfl⟩
abbrev main_while0b_v12 : Ref sig .tc := ⟨.hbm, 26, rfl⟩
abbrev main_while0b_cst_7 : Ref sig .tc := ⟨.hbm, 27, rfl⟩
abbrev main_while0b_v13 : Ref sig .tc := ⟨.hbm, 28, rfl⟩
abbrev main_while0b_v14 : Ref sig .tc := ⟨.hbm, 29, rfl⟩
abbrev main_while0b_v15 : Ref sig .tc := ⟨.hbm, 30, rfl⟩
abbrev main_while0b_cst_8 : Ref sig .tc := ⟨.hbm, 31, rfl⟩
abbrev main_while0b_v16 : Ref sig .tc := ⟨.hbm, 32, rfl⟩
abbrev main_while0b_v17 : Ref sig .tc := ⟨.hbm, 33, rfl⟩
abbrev main_while0b_cst_9 : Ref sig .tc := ⟨.hbm, 34, rfl⟩
abbrev main_while0b_v18 : Ref sig .tc := ⟨.hbm, 35, rfl⟩
abbrev main_while0b_v19 : Ref sig .tc := ⟨.hbm, 36, rfl⟩
abbrev main_while0b_cst_10 : Ref sig .tc := ⟨.hbm, 37, rfl⟩
abbrev main_while0b_v20 : Ref sig .tc := ⟨.hbm, 38, rfl⟩
abbrev main_while0b_v21 : Ref sig .tc := ⟨.hbm, 39, rfl⟩
abbrev main_while0b_call1_v0 : Ref sig .tc := ⟨.hbm, 40, rfl⟩
abbrev main_while0b_call1_c : Ref sig .tc := ⟨.hbm, 41, rfl⟩
abbrev main_while0b_call1_c_0 : Ref sig .tc := ⟨.hbm, 42, rfl⟩
abbrev main_while0b_v22 : Ref sig .tc := ⟨.hbm, 43, rfl⟩
abbrev main_while0b_c_11 : Ref sig .tc := ⟨.hbm, 44, rfl⟩
abbrev main_while0b_v23 : Ref sig .tc := ⟨.hbm, 45, rfl⟩
abbrev main_v4 : Ref sig .tc := ⟨.hbm, 46, rfl⟩

abbrev nD : Nat := 1
abbrev τ : Topo := Topo.v7x

variable {F : FTy → Type} [FloatOps F]

abbrev main_while0_count : Scf.Loop 32 := ⟨0#32, 4000#32, 1#32⟩
-- ==== Proof.KBody.lean ====
/- The kernel's body as two functions: the average it carries from one time tile to the next, and the tile that it stores. -/
module

public import proofs.«01_k».proof.Proof.Gen.KernelIdeal.Frame

@[expose] public section

set_option maxRecDepth 65536

noncomputable section

namespace Cert.KernelIdeal.Body

open Idealize.ShloMosaic Idealize.ShloMosaic.TcCoe Idealize.ShloMosaic.Tactic
open Cert.KernelIdeal Cert.KernelIdeal.Gen

variable {F : FTy → Type} [FloatOps F] [Named F]

/-- A full time tile of a batch lies inside the block. -/
theorem inbFull (g t : ℕ) (hg : g < 8) (ht : t < 31) : ∀ a : Fin 3, (![g, 128 * t, 0] : Fin 3 → ℕ) a + S1x128x128.size a ≤ S8x4000x128.size a := by
  intro a
  fin_cases a <;> simp [Shape.size] <;> omega

/-- The short last tile of a batch lies inside the block. -/
theorem inbTail (g : ℕ) (hg : g < 8) : ∀ a : Fin 3, (![g, 3968, 0] : Fin 3 → ℕ) a + S1x32x128.size a ≤ S8x4000x128.size a := by
  intro a
  fin_cases a <;> simp [Shape.size] <;> omega

/-- The average over one tile: the table against the tile stacked on the average before. -/
def avg (wd : FVec F S128x256 .f32) (xc mp : FVec F S128x128 .f32) : FVec F S128x128 .f32 :=
  matmul dot_S128x256_S256x128_S128x128_1_0_0_1_n_n none wd
    (concatenate S256x128 0 [⟨S128x128, xc⟩, ⟨S128x128, mp⟩] concatenates_S128x128_S128x128_S256x128_d0)
    (constant S128x128 .f32 0x00000000#32)

/-- What a tile is divided by, as a product: the power of the average. -/
def gain (m : FVec F S128x128 .f32) : FVec F S128x128 .f32 :=
  exp2 (mulf (broadcast S128x128 (Scalar.ofBits .f32 0xBF7AE148#32))
    (mulf (log (addf (broadcast S128x128 (Scalar.ofBits .f32 0x358637BD#32)) m)) (broadcast S128x128 (Named.named κ "log2e" 0x3FB8AA3B#32))))

/-- The compressed tile. -/
def root (xc p : FVec F S128x128 .f32) : FVec F S128x128 .f32 :=
  let u := addf (mulf xc p) (broadcast S128x128 (Scalar.ofBits .f32 0x40000000#32))
  subf (mulf u (rsqrt u)) (broadcast S128x128 (Scalar.ofBits .f32 0x3FB504F3#32))

section run
variable (c : Dev nD) (arg1 : Memref sig .tc .vmem S8x4000x128 .f32) (harg1 : arg1.IsWhole) (arg2 : Memref sig .tc .vmem S128x256 .f32) (harg2 : arg2.IsWhole)
  (x0 : Vec F S8x4000x128 .f32) (x1 : Vec F S128x256 .f32)

/-- The table as the body loads it. -/
def tab : FVec F S128x256 .f32 :=
  shapeCast S128x256 (arg2.view.readAt (Elt F) (Rect.unit ![0, 0] S128x256.size inb_S128x256_S128x256_0_0).toLoadRect (harg2.unread x1))
    shapeCasts_S128x256_S128x256

/-- A full tile as the body loads it. -/
def tile (g t : ℕ) (hg : g < 8) (ht : t < 31) : FVec F S128x128 .f32 :=
  shapeCast S128x128 (arg1.view.readAt (Elt F) (Rect.unit (s := S8x4000x128) ![g, 128 * t, 0] S1x128x128.size (inbFull g t hg ht)).toLoadRect (harg1.unread x0))
    shapeCasts_S1x128x128_S128x128

/-- The last tile as the body loads it: 32 rows and 96 rows of zeros. -/
def tail (g : ℕ) (hg : g < 8) : FVec F S128x128 .f32 :=
  concatenate S128x128 0
    [⟨S32x128, shapeCast S32x128 (arg1.view.readAt (Elt F) (Rect.unit (s := S8x4000x128) ![g, 3968, 0] S1x32x128.size (inbTail g hg)).toLoadRect (harg1.unread x0))
        shapeCasts_S1x32x128_S32x128⟩,
     ⟨S96x128, broadcast S96x128 (Scalar.ofBits .f32 0x00000000#32)⟩] concatenates_S32x128_S96x128_S128x128_d0

/-- The average that tile `n` finds: zero, then one step for each tile before it. -/
def carry (g : ℕ) (hg : g < 8) (n : ℕ) : n ≤ 31 → FVec F S128x128 .f32 :=
  Nat.rec (motive := fun n => n ≤ 31 → FVec F S128x128 .f32) (fun _ => broadcast S128x128 (Scalar.ofBits .f32 0x00000000#32))
    (fun k ih h => avg (tab arg2 harg2 x1) (tile arg1 harg1 x0 g k hg h) (ih (Nat.le_of_succ_le h))) n

/-- The store of a full tile. -/
def pieceFull (t : Fin 31) (g : Fin 8) : View.Piece (Elt F) S8x4000x128 .f32 :=
  ⟨Rect.unit ![g.val, 128 * t.val, 0] S1x128x128.size (inbFull g.val t.val g.isLt t.isLt),
    shapeCast S1x128x128 (root (tile arg1 harg1 x0 g.val t.val g.isLt t.isLt)
      (gain (carry arg1 harg1 arg2 harg2 x0 x1 g.val g.isLt (t.val + 1) t.isLt))) shapeCasts_S128x128_S1x128x128⟩

/-- The store of the last tile: its 32 rows. -/
def pieceTail (g : Fin 8) : View.Piece (Elt F) S8x4000x128 .f32 :=
  ⟨Rect.unit ![g.val, 3968, 0] S1x32x128.size (inbTail g.val g.isLt),
    shapeCast S1x32x128 (extractStridedSlice S32x128 ![0, 0] (root (tail arg1 harg1 x0 g.val g.isLt)
      (gain (avg (tab arg2 harg2 x1) (tail arg1 harg1 x0 g.val g.isLt) (carry arg1 harg1 arg2 harg2 x0 x1 g.val g.isLt 31 (Nat.le_refl 31)))))
        slices_S128x128_o0_0_S32x128) shapeCasts_S32x128_S1x32x128⟩

/-- All the stores of the body, last first. -/
def pieces : List (View.Piece (Elt F) S8x4000x128 .f32) :=
  List.ofFn (fun g : Fin 8 => pieceTail arg1 harg1 arg2 harg2 x0 x1 g.rev) ++
    (List.ofFn (fun t : Fin 31 => List.ofFn (fun g : Fin 8 => pieceFull arg1 harg1 arg2 harg2 x0 x1 t.rev g.rev))).flatten

set_option maxHeartbeats 0 in
/-- The body's stores are those. -/
theorem run_pieces (i : grid0.Coords) (arg3 : Memref sig .tc .vmem S8x4000x128 .f32) (harg3 : arg3.IsWhole) :
    (kernelRun0_A c i arg1 harg1 arg2 harg2 arg3 harg3 x0 x1).1 = pieces arg1 harg1 arg2 harg2 x0 x1 := by
  sl_kernel_rfl

end run

end Cert.KernelIdeal.Body

end
-- ==== Proof.Consts.lean ====
/- The constants of both programs, as the real numbers that their words denote. -/
module

public import Idealize.ShloMosaic.PureOps.Ideal

@[expose] public section

noncomputable section

namespace Cert.Pcen

open Idealize.ShloMosaic

/-- The weight of the old average, about 0.975. -/
def cR : ℝ := 16357786 / 16777216
/-- The weight of the new value, about 0.025. -/
def sR : ℝ := 13421773 / 536870912
/-- The floor under the average, about 1e-6. -/
def epsR : ℝ := 8796093 / 8796093022208
/-- The power of the average, about 0.98. -/
def alphaR : ℝ := 16441672 / 16777216

theorem ofBits_c : Ideal.ofBits .f32 0x3F79999A#32 = (cR : EReal) := by
  unfold cR
  simp [Ideal.ofBits, Ideal.ieee, -EReal.coe_mul]; norm_num

theorem ofBits_s : Ideal.ofBits .f32 0x3CCCCCCD#32 = (sR : EReal) := by
  unfold sR
  simp [Ideal.ofBits, Ideal.ieee, -EReal.coe_mul]; norm_num

theorem ofBits_eps : Ideal.ofBits .f32 0x358637BD#32 = (epsR : EReal) := by
  unfold epsR
  simp [Ideal.ofBits, Ideal.ieee, -EReal.coe_mul]; norm_num

theorem ofBits_alpha : Ideal.ofBits .f32 0x3F7AE148#32 = (alphaR : EReal) := by
  unfold alphaR
  simp [Ideal.ofBits, Ideal.ieee, -EReal.coe_mul]; norm_num

theorem ofBits_neg_alpha : Ideal.ofBits .f32 0xBF7AE148#32 = ((-alphaR : ℝ) : EReal) := by
  unfold alphaR
  simp [Ideal.ofBits, Ideal.ieee, -EReal.coe_mul, -EReal.coe_neg]; norm_num

theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem cR_nonneg : 0 ≤ cR := by unfold cR; norm_num
theorem cR_pos : 0 < cR := by unfold cR; norm_num
theorem sR_pos : 0 < sR := by unfold sR; norm_num
theorem epsR_pos : 0 < epsR := by unfold epsR; norm_num
theorem alphaR_pos : 0 < alphaR := by unfold alphaR; norm_num

end Cert.Pcen

end
-- ==== Proof.Point.lean ====
/- One value compressed, by the kernel's operations and by the reference's: the same extended real. -/
module

public import proofs.«01_k».proof.Proof.Consts
public import Mathlib.Analysis.SpecialFunctions.Pow.Real

@[expose] public section

noncomputable section

namespace Cert.Pcen

open Idealize.ShloMosaic

/-- The kernel's gain at an element. -/
def gainS (m : EReal) : EReal :=
  Ideal.exp2 (Ideal.ofBits .f32 0xBF7AE148#32 * (Ideal.log (Ideal.ofBits .f32 0x358637BD#32 + m) * (((Real.log 2)⁻¹ : ℝ) : EReal)))

/-- The kernel's compressed value at an element. -/
def rootS (x p : EReal) : EReal :=
  (x * p + Ideal.ofBits .f32 0x40000000#32) * Ideal.rsqrt (x * p + Ideal.ofBits .f32 0x40000000#32) - Ideal.ofBits .f32 0x3FB504F3#32

/-- The reference's compressed value at an element. -/
def refS (x m : EReal) : EReal :=
  Ideal.pow (Ideal.div x (Ideal.pow (Ideal.ofBits .f32 0x358637BD#32 + m) (Ideal.ofBits .f32 0x3F7AE148#32)) + Ideal.ofBits .f32 0x40000000#32)
    (Ideal.ofBits .f32 0x3F000000#32) - Ideal.ofBits .f32 0x3FB504F3#32

/-- The gain of an infinite average is zero. -/
theorem gainS_top : gainS ⊤ = 0 := by
  unfold gainS
  rw [ofBits_eps, ofBits_neg_alpha, EReal.coe_add_top]
  show Ideal.exp2 (((-alphaR : ℝ) : EReal) * ((⊤ : EReal) * (((Real.log 2)⁻¹ : ℝ) : EReal))) = 0
  rw [EReal.top_mul_coe_of_pos (inv_pos.mpr (Real.log_pos (by norm_num))), EReal.coe_mul_top_of_neg (neg_neg_of_pos alphaR_pos)]
  rfl

/-- The gain of a finite average is the power of it. -/
theorem gainS_coe (r : ℝ) (hr : 0 ≤ r) : gainS (r : EReal) = (((epsR + r) ^ (-alphaR) : ℝ) : EReal) := by
  have hp : 0 < epsR + r := by have := epsR_pos; linarith
  have hl : Ideal.log ((epsR + r : ℝ) : EReal) = (Real.log (epsR + r) : EReal) := by
    show (if epsR + r ≤ 0 then (⊥ : EReal) else _) = _
    rw [if_neg (not_le.mpr hp)]
  unfold gainS
  rw [ofBits_eps, ofBits_neg_alpha, ← EReal.coe_add, hl, ← EReal.coe_mul, ← EReal.coe_mul]
  show ((Real.rpow 2 _ : ℝ) : EReal) = _
  congr 1
  rw [Real.rpow_eq_pow]
  have h2 : Real.log 2 ≠ 0 := (Real.log_pos (by norm_num)).ne'
  rw [Real.rpow_def_of_pos hp, Real.rpow_def_of_pos (by norm_num : (0 : ℝ) < 2)]
  congr 1
  field_simp

/-- A number times its inverse square root is its square root. -/
theorem mul_rsqrt (u : ℝ) (hu : 0 < u) : (u : EReal) * Ideal.rsqrt (u : EReal) = Ideal.pow (u : EReal) ((1 / 2 : ℝ) : EReal) := by
  have h1 : Ideal.rsqrt (u : EReal) = (((Real.sqrt u)⁻¹ : ℝ) : EReal) := by
    show (if u < 0 then (⊥ : EReal) else if u = 0 then ⊤ else _) = _
    rw [if_neg (not_lt.mpr hu.le), if_neg hu.ne']
  rw [h1, ← EReal.coe_mul]
  show _ = ((Real.rpow u (1 / 2) : ℝ) : EReal)
  congr 1
  rw [Real.rpow_eq_pow, ← Real.sqrt_eq_rpow]
  have h0 : Real.sqrt u ≠ 0 := (Real.sqrt_pos.mpr hu).ne'
  field_simp
  rw [Real.sq_sqrt hu.le]

/-- Both sides from the quotient on: a nonnegative quotient that both hold. -/
theorem rootS_eq (x p q : EReal) (r : ℝ) (hr : 0 ≤ r) (h1 : x * p = (r : EReal)) (h2 : q = (r : EReal)) :
    rootS x p = Ideal.pow (q + Ideal.ofBits .f32 0x40000000#32) (Ideal.ofBits .f32 0x3F000000#32) - Ideal.ofBits .f32 0x3FB504F3#32 := by
  unfold rootS
  rw [h1, h2, ofBits_two, ofBits_half, ← EReal.coe_add, mul_rsqrt _ (by linarith)]

/-- The kernel's compressed value is the reference's. -/
theorem point_eq (x m : EReal) (hx : 0 ≤ x) (hm : 0 ≤ m) (hxm : x = ⊤ → m = ⊤) : rootS x (gainS m) = refS x m := by
  unfold refS
  induction m with
  | bot => simp at hm
  | top =>
    have ht : Ideal.pow (Ideal.ofBits .f32 0x358637BD#32 + ⊤) (Ideal.ofBits .f32 0x3F7AE148#32) = ⊤ := by
      rw [ofBits_eps, ofBits_alpha, EReal.coe_add_top]
      show (if (0 : EReal) < (alphaR : EReal) then (⊤ : EReal) else _) = ⊤
      rw [if_pos (by exact_mod_cast alphaR_pos)]
    refine rootS_eq x _ _ 0 le_rfl ?_ ?_
    · rw [gainS_top]; simp
    · rw [ht]
      unfold Ideal.div
      rw [if_neg (by simp)]
      simp
  | coe r =>
    have hr : 0 ≤ r := by exact_mod_cast hm
    have hp : 0 < epsR + r := by have := epsR_pos; linarith
    induction x with
    | bot => simp at hx
    | top => exact absurd (hxm rfl) (by simp)
    | coe y =>
      have hy : 0 ≤ y := by exact_mod_cast hx
      have hpow : Ideal.pow (Ideal.ofBits .f32 0x358637BD#32 + (r : EReal)) (Ideal.ofBits .f32 0x3F7AE148#32) = (((epsR + r) ^ alphaR : ℝ) : EReal) := by
        rw [ofBits_eps, ofBits_alpha, ← EReal.coe_add]
        rfl
      have hpp : 0 < (epsR + r) ^ alphaR := Real.rpow_pos_of_pos hp _
      refine rootS_eq _ _ _ (y * (epsR + r) ^ (-alphaR)) (mul_nonneg hy (Real.rpow_nonneg hp.le _)) ?_ ?_
      · rw [gainS_coe r hr, ← EReal.coe_mul]
      · rw [hpow]
        unfold Ideal.div
        rw [if_neg (by exact_mod_cast hpp.ne'), ← EReal.coe_inv, ← EReal.coe_mul, Real.rpow_neg hp.le]

end Cert.Pcen

end
-- ==== Proof.KRead.lean ====
/- The kernel's loads and its two functions read at an index, over the reals. -/
module

public import proofs.«01_k».proof.Proof.KBody
public import proofs.«01_k».proof.Proof.Point
public import Idealize.ShloMosaic.Lib.Pointwise
public import Idealize.ShloMosaic.Lib.Pipeline.ValueKit
public import Idealize.ShloMosaic.Lib.WholeRead

@[expose] public section

set_option maxRecDepth 16384

noncomputable section

namespace Cert.KernelIdeal.Body

open Idealize.ShloMosaic Idealize.ShloMosaic.TcCoe Idealize.ShloMosaic.Tactic
open Cert.KernelIdeal Cert.KernelIdeal.Gen

variable (arg1 : Memref sig .tc .vmem S8x4000x128 .f32) (harg1 : arg1.IsWhole) (arg2 : Memref sig .tc .vmem S128x256 .f32) (harg2 : arg2.IsWhole)
  (x0 : Vec Ideal S8x4000x128 .f32) (x1 : Vec Ideal S128x256 .f32)

/-- A load of a buffer held at `X`, as a function: `X` at the load's place. -/
theorem load_eq {s : Shape} {e : EltTy} {m : Memref sig .tc .vmem s e} (h : m.IsWhole) (X : s.Idx → Elt Ideal e) (B : LoadRect s) :
    m.view.readAt (Elt Ideal) B (h.unread X) = fun x => X (B.idx x) :=
  funext fun x => h.readAt_unread X B x

/-- The loaded table is the table. -/
theorem tab_apply (j : S128x256.Idx) : tab arg2 harg2 x1 j = x1 j := by
  unfold tab
  rw [load_eq]
  pointwise

/-- A tile with its batch axis dropped. -/
theorem cast_full_apply (v : FVec Ideal S1x128x128 .f32) (i ch : Fin 128) :
    shapeCast S128x128 v shapeCasts_S1x128x128_S128x128 (ix2 i ch) = v (ix3 0 i ch) := by
  pointwise

/-- A short tile with its batch axis dropped. -/
theorem cast_tail_apply (v : FVec Ideal S1x32x128 .f32) (i : Fin 32) (ch : Fin 128) :
    shapeCast S32x128 v shapeCasts_S1x32x128_S32x128 (ix2 i ch) = v (ix3 0 i ch) := by
  pointwise

/-- A place of a full tile, in the block. -/
theorem emb_full (g t : ℕ) (hg : g < 8) (ht : t < 31) (i ch : Fin 128) :
    (Rect.unit (s := S8x4000x128) ![g, 128 * t, 0] S1x128x128.size (inbFull g t hg ht)).toLoadRect.idx (ix3 0 i ch)
      = ix3 ⟨g, hg⟩ ⟨128 * t + i.val, by omega⟩ ch := by
  funext a
  apply Fin.ext
  rw [Rect.idx_unit_val]
  fin_cases a <;> simp [ix3]

/-- A place of a short tile, in the block. -/
theorem emb_tail (g : ℕ) (hg : g < 8) (i : Fin 32) (ch : Fin 128) :
    (Rect.unit (s := S8x4000x128) ![g, 3968, 0] S1x32x128.size (inbTail g hg)).toLoadRect.idx (ix3 0 i ch)
      = ix3 ⟨g, hg⟩ ⟨3968 + i.val, by omega⟩ ch := by
  funext a
  apply Fin.ext
  rw [Rect.idx_unit_val]
  fin_cases a <;> simp [ix3]

/-- Row `i` of the loaded tile `t` is row `128 t + i` of the batch. -/
theorem tile_apply (g t : ℕ) (hg : g < 8) (ht : t < 31) (i ch : Fin 128) :
    tile arg1 harg1 x0 g t hg ht (ix2 i ch) = x0 (ix3 ⟨g, hg⟩ ⟨128 * t + i.val, by omega⟩ ch) := by
  unfold tile
  rw [cast_full_apply, load_eq]
  exact congrArg x0 (emb_full g t hg ht i ch)

/-- A short tile above 96 rows of zeros, at a row. -/
theorem stack_apply (v : FVec Ideal S32x128 .f32) (i ch : Fin 128) :
    concatenate S128x128 0 [⟨S32x128, v⟩, ⟨S96x128, broadcast S96x128 (Scalar.ofBits .f32 0x00000000#32)⟩] concatenates_S32x128_S96x128_S128x128_d0
      (ix2 i ch) = if h : i.val < 32 then v (ix2 ⟨i.val, h⟩ ch) else 0 := by
  pointwise

/-- Row `i` of the last tile is row `3968 + i` of the batch, or zero past the end. -/
theorem tail_apply (g : ℕ) (hg : g < 8) (i ch : Fin 128) :
    tail arg1 harg1 x0 g hg (ix2 i ch) = if h : i.val < 32 then x0 (ix3 ⟨g, hg⟩ ⟨3968 + i.val, by omega⟩ ch) else 0 := by
  unfold tail
  rw [stack_apply]
  split
  · rename_i h
    rw [cast_tail_apply, load_eq]
    exact congrArg x0 (emb_tail g hg ⟨i.val, h⟩ ch)
  · rfl

/-- The average at a row: the table's left half against the tile, its right half against the average before. -/
theorem avg_apply (wd : FVec Ideal S128x256 .f32) (xc mp : FVec Ideal S128x128 .f32) (i ch : Fin 128) :
    avg wd xc mp (ix2 i ch) = (∑ k : Fin 128, wd (ix2 i ⟨k.val, by omega⟩) * xc (ix2 k ch))
      + ∑ k : Fin 128, wd (ix2 i ⟨128 + k.val, by omega⟩) * mp (ix2 k ch) := by
  unfold avg
  pointwise

/-- The gain at an element. -/
theorem gain_apply (m : FVec Ideal S128x128 .f32) (j : S128x128.Idx) : gain m j = Pcen.gainS (m j) := by
  unfold gain Pcen.gainS
  rw [IdealRules.named_const.ideal_named_scalar κ "log2e" (φ := .f32) 0x3FB8AA3B#32 (((Real.log 2)⁻¹ : ℝ) : EReal) rfl]
  rfl

/-- The compressed value at an element. -/
theorem root_apply (x p : FVec Ideal S128x128 .f32) (j : S128x128.Idx) : root x p j = Pcen.rootS (x j) (p j) := by
  unfold root Pcen.rootS
  pointwise

end Cert.KernelIdeal.Body

end
-- ==== Proof.Ema.lean ====
/- The moving average over the extended reals: its step, and what a block of steps comes to. -/
module

public import proofs.«01_k».proof.Proof.Consts
public import Mathlib.Algebra.BigOperators.Fin

@[expose] public section

noncomputable section

namespace Cert.Pcen

open Idealize.ShloMosaic

/-- The average after `n` values of `f`: from zero, the old average and the new value weighed. -/
def ema (f : ℕ → EReal) : ℕ → EReal
  | 0 => 0
  | n + 1 => (cR : EReal) * ema f n + (sR : EReal) * f n

variable {f : ℕ → EReal}

theorem c_nonneg : (0 : EReal) ≤ (cR : EReal) := by exact_mod_cast cR_nonneg
theorem s_nonneg : (0 : EReal) ≤ (sR : EReal) := by exact_mod_cast sR_pos.le

/-- The average of nonnegative values is nonnegative. -/
theorem ema_nonneg (hf : ∀ n, 0 ≤ f n) : ∀ n, 0 ≤ ema f n
  | 0 => le_rfl
  | n + 1 => add_nonneg (mul_nonneg c_nonneg (ema_nonneg hf n)) (mul_nonneg s_nonneg (hf n))

/-- An infinite value makes the average infinite. -/
theorem ema_top (hf : ∀ n, 0 ≤ f n) {n : ℕ} (h : f n = ⊤) : ema f (n + 1) = ⊤ := by
  show (cR : EReal) * ema f n + (sR : EReal) * f n = ⊤
  rw [h, EReal.coe_mul_top_of_pos sR_pos]
  exact EReal.add_top_of_ne_bot (ne_bot_of_le_ne_bot (by simp) (mul_nonneg c_nonneg (ema_nonneg hf n)))

/-- The old average's weight goes into a sum of nonnegative terms. -/
theorem c_mul_sum {ι : Type} (S : Finset ι) (g : ι → EReal) (hg : ∀ i, 0 ≤ g i) : (cR : EReal) * ∑ i ∈ S, g i = ∑ i ∈ S, (cR : EReal) * g i := by
  classical
  induction S using Finset.induction_on with
  | empty => simp
  | insert a S ha ih =>
    rw [Finset.sum_insert ha, Finset.sum_insert ha, EReal.left_distrib_of_nonneg (hg a) (Finset.sum_nonneg fun i _ => hg i), ih]

/-- The weight of value `k` after `i + 1` steps. -/
def wt (i k : ℕ) : EReal := if k ≤ i then ((sR * cR ^ (i - k) : ℝ) : EReal) else 0

theorem wt_nonneg (i k : ℕ) : 0 ≤ wt i k := by
  unfold wt
  split
  · exact_mod_cast mul_nonneg sR_pos.le (pow_nonneg cR_nonneg _)
  · exact le_rfl

/-- `i + 1` steps from step `n`: the average there weighed, and the values since weighed. -/
theorem ema_add (hf : ∀ n, 0 ≤ f n) (n : ℕ) : ∀ i, ema f (n + i + 1)
    = ∑ k ∈ Finset.range (i + 1), wt i k * f (n + k) + ((cR ^ (i + 1) : ℝ) : EReal) * ema f n
  | 0 => by
    rw [Finset.sum_range_one]
    show (cR : EReal) * ema f n + (sR : EReal) * f n = _
    rw [add_comm]
    simp [wt]
  | i + 1 => by
    show (cR : EReal) * ema f (n + i + 1) + (sR : EReal) * f (n + i + 1) = _
    rw [ema_add hf n i, EReal.left_distrib_of_nonneg (Finset.sum_nonneg fun k _ => mul_nonneg (wt_nonneg i k) (hf _))
      (mul_nonneg (by exact_mod_cast pow_nonneg cR_nonneg _) (ema_nonneg hf n)),
      c_mul_sum _ _ (fun k => mul_nonneg (wt_nonneg i k) (hf _)), Finset.sum_range_succ _ (i + 1)]
    have h1 : ∀ k ∈ Finset.range (i + 1), (cR : EReal) * (wt i k * f (n + k)) = wt (i + 1) k * f (n + k) := by
      intro k hk
      have hk' : k ≤ i := Nat.lt_succ_iff.mp (Finset.mem_range.mp hk)
      rw [← mul_assoc]
      unfold wt
      rw [if_pos hk', if_pos (Nat.le_succ_of_le hk'), ← EReal.coe_mul, Nat.succ_sub hk', pow_succ]
      congr 2
      ring
    have h2 : (cR : EReal) * (((cR ^ (i + 1) : ℝ) : EReal) * ema f n) = ((cR ^ (i + 1 + 1) : ℝ) : EReal) * ema f n := by
      rw [← mul_assoc, ← EReal.coe_mul, pow_succ' cR (i + 1)]
    have h3 : wt (i + 1) (i + 1) * f (n + (i + 1)) = (sR : EReal) * f (n + i + 1) := by
      unfold wt
      simp [add_assoc]
    rw [Finset.sum_congr rfl h1, h2, h3]
    abel

/-- The same with the sum over a whole block of 128: values past the step weigh nothing. -/
theorem ema_block (hf : ∀ n, 0 ≤ f n) (n : ℕ) (i : Fin 128) (g : Fin 128 → EReal) (hg : ∀ k : Fin 128, k ≤ i → g k = f (n + k.val)) :
    ∑ k : Fin 128, wt i.val k.val * g k + ((cR ^ (i.val + 1) : ℝ) : EReal) * ema f n = ema f (n + i.val + 1) := by
  rw [ema_add hf n i.val]
  congr 1
  have h1 : ∀ k : Fin 128, wt i.val k.val * g k = wt i.val k.val * f (n + k.val) := by
    intro k
    by_cases hk : k ≤ i
    · rw [hg k hk]
    · have hk' : ¬ k.val ≤ i.val := fun h => hk h
      unfold wt
      rw [if_neg hk', zero_mul, zero_mul]
  rw [Finset.sum_congr rfl (fun k _ => h1 k), Fin.sum_univ_eq_sum_range (fun k => wt i.val k * f (n + k)) 128]
  refine (Finset.sum_subset (fun k hk => ?_) (fun k _ hk => ?_)).symm
  · have := Finset.mem_range.mp hk
    have := i.isLt
    exact Finset.mem_range.mpr (by omega)
  · unfold wt
    rw [if_neg (fun h => hk (Finset.mem_range.mpr (by omega))), zero_mul]

end Cert.Pcen

end
-- ==== Proof.KBlock.lean ====
/- What one run of the kernel's body leaves in its output block: every value of every series compressed by its average. -/
module

public import proofs.«01_k».proof.Proof.KRead
public import proofs.«01_k».proof.Proof.Ema

@[expose] public section

set_option maxRecDepth 16384

noncomputable section

namespace Cert.KernelIdeal.Body

open Idealize.ShloMosaic Idealize.ShloMosaic.TcCoe Idealize.ShloMosaic.Tactic
open Cert.KernelIdeal Cert.KernelIdeal.Gen

/-- The series of batch `g` and channel `ch` in a block, zero past its end. -/
def ser (x0 : FVec Ideal S8x4000x128 .f32) (g : Fin 8) (ch : Fin 128) (n : ℕ) : EReal :=
  if h : n < 4000 then x0 (ix3 g ⟨n, h⟩ ch) else 0

/-- What the block is to hold: each value compressed by the average up to it. -/
def blockOut (x0 : FVec Ideal S8x4000x128 .f32) (y : S8x4000x128.Idx) : EReal :=
  Pcen.rootS (x0 y) (Pcen.gainS (Pcen.ema (ser x0 (y 0) (y 2)) ((y 1).val + 1)))

/-- The weight table: powers of the old average's weight, and in its last column what the average before the tile weighs. -/
structure IsTable (x1 : FVec Ideal S128x256 .f32) : Prop where
  left : ∀ i k : Fin 128, x1 (ix2 i ⟨k.val, by omega⟩) = Pcen.wt i.val k.val
  right : ∀ i k : Fin 128, x1 (ix2 i ⟨128 + k.val, by omega⟩) = if k = 127 then ((Pcen.cR ^ (i.val + 1) : ℝ) : EReal) else 0

section block
variable (arg1 : Memref sig .tc .vmem S8x4000x128 .f32) (harg1 : arg1.IsWhole) (arg2 : Memref sig .tc .vmem S128x256 .f32) (harg2 : arg2.IsWhole)
  (x0 : FVec Ideal S8x4000x128 .f32) (x1 : FVec Ideal S128x256 .f32)

theorem ser_nonneg (hx : ∀ j, 0 ≤ x0 j) (g : Fin 8) (ch : Fin 128) (n : ℕ) : 0 ≤ ser x0 g ch n := by
  unfold ser
  split
  · exact hx _
  · exact le_rfl

/-- With the weight table, the average at a row: the tile's rows weighed, and the last row of the average before. -/
theorem avg_table (ht : IsTable x1) (xc mp : FVec Ideal S128x128 .f32) (i ch : Fin 128) :
    avg (F := Ideal) (tab arg2 harg2 x1) xc mp (ix2 i ch)
      = (∑ k : Fin 128, Pcen.wt i.val k.val * xc (ix2 k ch)) + ((Pcen.cR ^ (i.val + 1) : ℝ) : EReal) * mp (ix2 127 ch) := by
  rw [avg_apply]
  congr 1
  · refine Finset.sum_congr rfl fun k _ => ?_
    rw [tab_apply, ht.left]
  · rw [Finset.sum_eq_single (127 : Fin 128)]
    · rw [tab_apply, ht.right, if_pos rfl]
    · intro k _ hk
      rw [tab_apply, ht.right, if_neg hk, zero_mul]
    · intro h
      exact absurd (Finset.mem_univ _) h

/-- One tile's step: if the average before stands at time `n` and the tile holds the values from `n` on, row `i` is the average
    after value `n + i`. -/
theorem avg_step (ht : IsTable x1) (f : ℕ → EReal) (hf : ∀ n, 0 ≤ f n) (n : ℕ) (xc mp : FVec Ideal S128x128 .f32) (i ch : Fin 128)
    (hxc : ∀ k : Fin 128, xc (ix2 k ch) = f (n + k.val)) (hmp : mp (ix2 127 ch) = Pcen.ema f n) :
    avg (F := Ideal) (tab arg2 harg2 x1) xc mp (ix2 i ch) = Pcen.ema f (n + i.val + 1) := by
  rw [avg_table arg2 harg2 x1 ht, hmp]
  exact Pcen.ema_block hf n i (fun k => xc (ix2 k ch)) fun k _ => hxc k

/-- The rows of a full tile are the series. -/
theorem tile_ser (g t : ℕ) (hg : g < 8) (ht : t < 31) (k ch : Fin 128) :
    tile (F := Ideal) arg1 harg1 x0 g t hg ht (ix2 k ch) = ser x0 ⟨g, hg⟩ ch (128 * t + k.val) := by
  rw [tile_apply, ser, dif_pos]

/-- The rows of the last tile are the series, and zeros past its end. -/
theorem tail_ser (g : ℕ) (hg : g < 8) (k ch : Fin 128) : tail (F := Ideal) arg1 harg1 x0 g hg (ix2 k ch) = ser x0 ⟨g, hg⟩ ch (3968 + k.val) := by
  rw [tail_apply, ser]
  by_cases h : k.val < 32
  · rw [dif_pos h, dif_pos (by omega)]
  · rw [dif_neg h, dif_neg (by omega)]

/-- The carried average's last row is the average at the tile's start. -/
theorem carry_row (ht : IsTable x1) (hx : ∀ j, 0 ≤ x0 j) (g : ℕ) (hg : g < 8) (ch : Fin 128) :
    ∀ (n : ℕ) (hn : n ≤ 31), carry (F := Ideal) arg1 harg1 arg2 harg2 x0 x1 g hg n hn (ix2 127 ch) = Pcen.ema (ser x0 ⟨g, hg⟩ ch) (128 * n)
  | 0, _ => Ideal.ofBits_zero_f32
  | n + 1, hn => avg_step arg2 harg2 x1 ht _ (ser_nonneg x0 hx _ ch) (128 * n) _ _ 127 ch (fun k => tile_ser arg1 harg1 x0 g n hg hn k ch)
      (carry_row ht hx g hg ch n (Nat.le_of_succ_le hn))

/-- After a full tile the average at row `i` is the average after the tile's value `i`. -/
theorem carry_tile (ht : IsTable x1) (hx : ∀ j, 0 ≤ x0 j) (g : ℕ) (hg : g < 8) (n : ℕ) (hn : n < 31) (i ch : Fin 128) :
    carry (F := Ideal) arg1 harg1 arg2 harg2 x0 x1 g hg (n + 1) hn (ix2 i ch) = Pcen.ema (ser x0 ⟨g, hg⟩ ch) (128 * n + i.val + 1) :=
  avg_step arg2 harg2 x1 ht _ (ser_nonneg x0 hx _ ch) (128 * n) _ _ i ch (fun k => tile_ser arg1 harg1 x0 g n hg hn k ch)
    (carry_row arg1 harg1 arg2 harg2 x0 x1 ht hx g hg ch n (Nat.le_of_succ_le hn))

/-- The same for the last tile. -/
theorem carry_tail (ht : IsTable x1) (hx : ∀ j, 0 ≤ x0 j) (g : ℕ) (hg : g < 8) (i ch : Fin 128) :
    avg (F := Ideal) (tab arg2 harg2 x1) (tail (F := Ideal) arg1 harg1 x0 g hg) (carry (F := Ideal) arg1 harg1 arg2 harg2 x0 x1 g hg 31 le_rfl) (ix2 i ch)
      = Pcen.ema (ser x0 ⟨g, hg⟩ ch) (3968 + i.val + 1) :=
  avg_step arg2 harg2 x1 ht _ (ser_nonneg x0 hx _ ch) 3968 _ _ i ch (fun k => tail_ser arg1 harg1 x0 g hg k ch)
    (carry_row arg1 harg1 arg2 harg2 x0 x1 ht hx g hg ch 31 le_rfl)

/-- A full tile given its batch axis. -/
theorem up_full_apply (v : FVec Ideal S128x128 .f32) (i ch : Fin 128) :
    shapeCast S1x128x128 v shapeCasts_S128x128_S1x128x128 (ix3 0 i ch) = v (ix2 i ch) := by
  pointwise

/-- The 32 rows that the last store takes, given their batch axis. -/
theorem up_tail_apply (v : FVec Ideal S128x128 .f32) (i : Fin 32) (ch : Fin 128) :
    shapeCast S1x32x128 (extractStridedSlice S32x128 ![0, 0] v slices_S128x128_o0_0_S32x128) shapeCasts_S32x128_S1x32x128 (ix3 0 i ch)
      = v (ix2 ⟨i.val, by omega⟩ ch) := by
  pointwise

/-- A full tile's store is the block's part there. -/
theorem full_eq (ht : IsTable x1) (hx : ∀ j, 0 ≤ x0 j) (t : Fin 31) (g : Fin 8) (x : S1x128x128.Idx) :
    (pieceFull (F := Ideal) arg1 harg1 arg2 harg2 x0 x1 t g).2 x = blockOut x0 ((pieceFull (F := Ideal) arg1 harg1 arg2 harg2 x0 x1 t g).1.emb x) := by
  obtain ⟨a, i, ch, rfl⟩ : ∃ a i ch, x = ix3 a i ch := ⟨_, _, _, eq_ix3 x⟩
  obtain rfl : a = 0 := Subsingleton.elim _ _
  have he : (pieceFull (F := Ideal) arg1 harg1 arg2 harg2 x0 x1 t g).1.emb (ix3 0 i ch) = ix3 g ⟨128 * t.val + i.val, by omega⟩ ch :=
    emb_full g.val t.val g.isLt t.isLt i ch
  rw [he]
  refine (up_full_apply (root (tile arg1 harg1 x0 g.val t.val g.isLt t.isLt)
    (gain (carry arg1 harg1 arg2 harg2 x0 x1 g.val g.isLt (t.val + 1) t.isLt))) i ch).trans ?_
  rw [root_apply, gain_apply, tile_apply, carry_tile arg1 harg1 arg2 harg2 x0 x1 ht hx]
  rfl

/-- The last tile's store is the block's part there. -/
theorem tail_eq (ht : IsTable x1) (hx : ∀ j, 0 ≤ x0 j) (g : Fin 8) (x : S1x32x128.Idx) :
    (pieceTail (F := Ideal) arg1 harg1 arg2 harg2 x0 x1 g).2 x = blockOut x0 ((pieceTail (F := Ideal) arg1 harg1 arg2 harg2 x0 x1 g).1.emb x) := by
  obtain ⟨a, i, ch, rfl⟩ : ∃ a i ch, x = ix3 a i ch := ⟨_, _, _, eq_ix3 x⟩
  obtain rfl : a = 0 := Subsingleton.elim _ _
  have he : (pieceTail (F := Ideal) arg1 harg1 arg2 harg2 x0 x1 g).1.emb (ix3 0 i ch) = ix3 g ⟨3968 + i.val, by omega⟩ ch :=
    emb_tail g.val g.isLt i ch
  rw [he]
  refine (up_tail_apply (root (tail arg1 harg1 x0 g.val g.isLt) (gain (avg (tab arg2 harg2 x1) (tail arg1 harg1 x0 g.val g.isLt)
    (carry arg1 harg1 arg2 harg2 x0 x1 g.val g.isLt 31 le_rfl)))) i ch).trans ?_
  rw [root_apply, gain_apply, tail_apply, carry_tail arg1 harg1 arg2 harg2 x0 x1 ht hx, dif_pos i.isLt]
  rfl

/-- Every store of the body is the block's part where it lands. -/
theorem pieces_eq (ht : IsTable x1) (hx : ∀ j, 0 ≤ x0 j) :
    ∀ p ∈ pieces (F := Ideal) arg1 harg1 arg2 harg2 x0 x1, ∀ x : p.1.shape.Idx, p.2 x = blockOut x0 (p.1.emb x) := by
  intro p hp
  unfold pieces at hp
  rcases List.mem_append.mp hp with h | h
  · obtain ⟨g, rfl⟩ := List.mem_ofFn.mp h
    exact tail_eq arg1 harg1 arg2 harg2 x0 x1 ht hx g.rev
  · obtain ⟨l, hl, hpl⟩ := List.mem_flatten.mp h
    obtain ⟨t, rfl⟩ := List.mem_ofFn.mp hl
    obtain ⟨g, rfl⟩ := List.mem_ofFn.mp hpl
    exact full_eq arg1 harg1 arg2 harg2 x0 x1 ht hx t.rev g.rev

/-- The output block after the body's run. -/
theorem out_eq (c : Dev nD) (i : grid0.Coords) (arg3 : Memref sig .tc .vmem S8x4000x128 .f32) (harg3 : arg3.IsWhole)
    (ht : IsTable x1) (hx : ∀ j, 0 ≤ x0 j) : out0_A_2 (F := Ideal) c i arg1 harg1 arg2 harg2 arg3 harg3 x0 x1 = blockOut x0 := by
  have hrun := run_pieces (F := Ideal) c arg1 harg1 arg2 harg2 x0 x1 i arg3 harg3
  have hcov := cover0_A_2 (F := Ideal) c i arg1 harg1 arg2 harg2 arg3 harg3 x0 x1
  rw [hrun] at hcov
  unfold out0_A_2
  rw [hrun]
  generalize hL : pieces (F := Ideal) arg1 harg1 arg2 harg2 x0 x1 = L at hcov
  have hG := pieces_eq arg1 harg1 arg2 harg2 x0 x1 ht hx
  rw [hL] at hG
  funext y
  exact View.read_writes_apply_of_pieces VO0_2 VO0_2.junk (blockOut x0) L hG y (hcov y)

end block

end Cert.KernelIdeal.Body

end
-- ==== Proof.Table.lean ====
/- What the host hands the kernel: the transposed argument and the weight table. -/
module

public import proofs.«01_k».proof.Proof.KBlock
public import Idealize.ShloMosaic.Lib.Claim

@[expose] public section

set_option maxRecDepth 16384

noncomputable section

namespace Cert.KernelIdeal.Body

open Idealize.ShloMosaic Idealize.ShloMosaic.TcCoe Idealize.ShloMosaic.Tactic
open Cert.KernelIdeal Cert.KernelIdeal.Gen

variable (m : (ℓ : Loc nD τ sig) → Buf (Elt Ideal) ℓ)

/-- Row number less column number. -/
def diffV : IVec S128x128 32 :=
  subi (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (broadcastInDim S1x128 ![1] bcast_S128_S1x128_1 (iotaInDim S128 32 0)))

/-- A word at every place of the square. -/
def zeroI : IVec S128x128 32 := broadcastInDim S128x128 ![] bcast_S_S128x128 (constantI S_ 32 0#32)

/-- The left half of the table. -/
def leftV : FVec Ideal S128x128 .f32 :=
  select (cmpi .sge diffV zeroI)
    (mulf (broadcastInDim S128x128 ![] bcast_S_S128x128 (constant S_ .f32 0x3CCCCCCD#32))
      (Host.powf (broadcastInDim S128x128 ![] bcast_S_S128x128 (constant S_ .f32 0x3F79999A#32)) (sitofp .f32 (maxsi diffV zeroI))))
    (broadcastInDim S128x128 ![] bcast_S_S128x128 (constant S_ .f32 0x00000000#32))

/-- The right half of the table. -/
def rightV : FVec Ideal S128x128 .f32 :=
  select (broadcastInDim S128x128 ![0, 1] bcast_S1x128_S128x128_0_1
      (cmpi .eq (broadcastInDim S1x128 ![1] bcast_S128_S1x128_1 (iotaInDim S128 32 0)) (broadcastInDim S1x128 ![] bcast_S_S1x128 (constantI S_ 32 127#32))))
    (broadcastInDim S128x128 ![0, 1] bcast_S128x1_S128x128_0_1
      (Host.powf (broadcastInDim S128x1 ![] bcast_S_S128x1 (constant S_ .f32 0x3F79999A#32))
        (addf (sitofp .f32 (broadcastInDim S128x1 ![0] bcast_S128_S128x1_0 (iotaInDim S128 32 0)))
          (broadcastInDim S128x1 ![] bcast_S_S128x1 (constant S_ .f32 0x3F800000#32)))))
    (broadcastInDim S128x128 ![] bcast_S_S128x128 (constant S_ .f32 0x00000000#32))

/-- The two halves side by side. -/
def tableV : FVec Ideal S128x256 .f32 :=
  concatenate S128x256 1 [⟨S128x128, leftV⟩, ⟨S128x128, rightV⟩] concatenates_S128x128_S128x128_S128x256_d1

set_option maxHeartbeats 1000000 in
/-- The kernel's second argument is the table. -/
theorem entry_table (c : Dev nD) : V m c main_v29 = tableV := by
  entry_read
  rfl

/-- The argument with time before channels. -/
def argT (c : Dev nD) : FVec Ideal S64x4000x128 .f32 :=
  transpose S64x4000x128 [0, 2, 1] (m ((c : Thread nD τ).loc main_arg0)) transposes_S64x128x4000_S64x4000x128_0_2_1

/-- The kernel's first argument is the argument with time before channels. -/
theorem entry_arg (c : Dev nD) : V m c main_v0 = argT m c := by
  entry_read
  rfl

/-- The difference's word, as a number. -/
theorem diff_toInt (i k : Fin 128) : (IntOp.subi (BitVec.ofNat 32 i.val) (BitVec.ofNat 32 k.val)).toInt = (i.val : ℤ) - k.val := by
  have := i.isLt
  have := k.isLt
  show (BitVec.ofNat 32 i.val - BitVec.ofNat 32 k.val).toInt = _
  rw [BitVec.toInt_sub, BitVec.toInt_ofNat', BitVec.toInt_ofNat']
  simp only [Int.bmod_def]
  omega

/-- A natural power of the old average's weight, as the programs take it. -/
theorem pow_word (b : BitVec 32) (n : ℕ) (h : b.toInt = (n : ℤ)) :
    Ideal.pow (Ideal.ofBits .f32 0x3F79999A#32) (((b.toInt : ℝ)) : EReal) = ((Pcen.cR ^ n : ℝ) : EReal) := by
  rw [Pcen.ofBits_c, h]
  show ((Real.rpow Pcen.cR ((n : ℤ) : ℝ) : ℝ) : EReal) = _
  rw [Real.rpow_eq_pow, Int.cast_natCast, Real.rpow_natCast]

/-- The left half at a place. -/
theorem left_apply (i k : Fin 128) : leftV (ix2 i k) = Pcen.wt i.val k.val := by
  unfold leftV diffV zeroI
  pointwise
  have hd := diff_toInt i k
  generalize IntOp.subi (BitVec.ofNat 32 i.val) (BitVec.ofNat 32 k.val) = d at hd
  rw [WordCmp.cmpi_sge_eq, WordCmp.select_ofBool]
  unfold Pcen.wt
  by_cases hk : k.val ≤ i.val
  · have hm : (IntOp.maxsi d 0#32).toInt = ((i.val - k.val : ℕ) : ℤ) := by
      unfold IntOp.maxsi
      split
      · rw [hd]; omega
      · rename_i h
        rw [BitVec.slt_iff_toInt_lt, hd] at h
        simp at h ⊢
        omega
    rw [if_pos hk, if_pos (by rw [hd]; simpa using hk)]
    show _ * Ideal.pow _ (((IntOp.maxsi d 0#32).toInt : ℝ) : EReal) = _
    rw [pow_word _ _ hm, Pcen.ofBits_s, ← EReal.coe_mul]
  · rw [if_neg hk, if_neg (by rw [hd]; simpa using hk)]

/-- The right half at a place. -/
theorem right_apply (i k : Fin 128) : rightV (ix2 i k) = if k = 127 then ((Pcen.cR ^ (i.val + 1) : ℝ) : EReal) else 0 := by
  unfold rightV
  pointwise
  have hi : (BitVec.ofNat 32 i.val).toInt = (i.val : ℤ) := by
    have := i.isLt
    rw [BitVec.toInt_ofNat', Int.bmod_def]
    omega
  have hk : (BitVec.ofNat 32 k.val == 127#32) = decide (k = 127) := by
    have := k.isLt
    rw [Bool.eq_iff_iff, beq_iff_eq, decide_eq_true_iff, ← BitVec.toNat_inj, Fin.ext_iff, BitVec.toNat_ofNat, Nat.mod_eq_of_lt (by omega)]
    rfl
  show Scalar.select (BitVec.ofBool (BitVec.ofNat 32 k.val == 127#32)) _ _ = _
  rw [hk, WordCmp.select_ofBool]
  simp only [decide_eq_true_eq]
  congr 1
  rw [Pcen.ofBits_c]
  show Ideal.pow _ ((((BitVec.ofNat 32 i.val).toInt : ℝ) : EReal) + ((1 : ℝ) : EReal)) = _
  rw [← EReal.coe_add, hi]
  show ((Real.rpow Pcen.cR _ : ℝ) : EReal) = _
  rw [Real.rpow_eq_pow, Int.cast_natCast]
  congr 1
  exact_mod_cast Real.rpow_natCast Pcen.cR (i.val + 1)

/-- The table is the weight table. -/
theorem tableV_isTable : IsTable tableV where
  left i k := by
    rw [← left_apply]
    unfold tableV
    generalize leftV = l
    generalize rightV = r
    pointwise
  right i k := by
    rw [← right_apply]
    unfold tableV
    generalize leftV = l
    generalize rightV = r
    pointwise

end Cert.KernelIdeal.Body

end
-- ==== Proof.KArray.lean ====
/- The kernel's output array after the whole run. -/
module

public import proofs.«01_k».proof.Proof.Table

@[expose] public section

set_option maxRecDepth 16384

noncomputable section

namespace Cert.KernelIdeal.Body

open Idealize.ShloMosaic Idealize.ShloMosaic.TcCoe Idealize.ShloMosaic.Tactic
open Cert.KernelIdeal Cert.KernelIdeal.Gen

variable (m : (ℓ : Loc nD τ sig) → Buf (Elt Ideal) ℓ)

/-- The series of batch `b` and channel `ch` in the whole array, zero past its end. -/
def serA (X : FVec Ideal S64x4000x128 .f32) (b : Fin 64) (ch : Fin 128) (n : ℕ) : EReal :=
  if h : n < 4000 then X (ix3 b ⟨n, h⟩ ch) else 0

/-- What the array is to hold: each value compressed by the average up to it. -/
def arrOut (X : FVec Ideal S64x4000x128 .f32) (y : S64x4000x128.Idx) : EReal :=
  Pcen.rootS (X y) (Pcen.gainS (Pcen.ema (serA X (y 0) (y 2)) ((y 1).val + 1)))

/-- Where the three windows stand at a point: batches eight at a time, the table whole. -/
theorem idx_facts : ∀ t : Fin grid0.N, win0_0.index t = ![(grid0.coords t 0).val, 0, 0] ∧ win0_1.index t = ![0, 0]
    ∧ win0_2.index t = ![(grid0.coords t 0).val, 0, 0] := by
  decide +kernel

/-- The first window's block at a point. -/
abbrev block (c : Dev nD) (t : Fin cfg0.N) : FVec Ideal S8x4000x128 .f32 := iblk m c 0 t

/-- The input block at a point is eight batches of the argument. -/
theorem block0 (c : Dev nD) (t : Fin cfg0.N) (g : Fin 8) (τ' : Fin 4000) (ch : Fin 128) :
    block m c t (ix3 g τ' ch) = argT m c (ix3 ⟨(grid0.coords t 0).val * 8 + g.val, by have := (grid0.coords t 0).isLt; have : (grid0.coords t 0).val < 8 := this; omega⟩ τ' ch) := by
  unfold block iblk
  rw [show V m c (Pipeline.arrRef spec0 0) = argT m c from entry_arg m c]
  have := idx_facts t
  blk_ext [this]

/-- The second block at a point is the table. -/
theorem block1 (c : Dev nD) (t : Fin cfg0.N) : IsTable (iblk m c 1 t) := by
  have h : (iblk m c 1 t : FVec Ideal S128x256 .f32) = tableV := by
    funext j
    unfold iblk
    rw [show V m c (Pipeline.arrRef spec0 1) = tableV from entry_table m c]
    have := idx_facts t
    blk_ext [this]
  rw [h]
  exact tableV_isTable

/-- The output array after the run. -/
theorem arr_eq (c : Dev nD) (hx : ∀ j, 0 ≤ argT m c j) : (dats m 0 c).arrAt 2 (cfgs 0).N = arrOut (argT m c) := by
  refine (dats m 0 c).arrAt_eq_of_covers 2 _ (by decide +kernel) fun t hf y => ?_
  blk_simp
  rw [after0_2]
  have hpos : ∀ j, 0 ≤ block m c t j := by
    intro j
    obtain ⟨g, n, ch, rfl⟩ : ∃ (g : Fin 8) (n : Fin 4000) (ch : Fin 128), j = ix3 g n ch := ⟨_, _, _, eq_ix3 j⟩
    rw [block0]
    exact hx _
  have hout : outsAt0 m c t = blockOut (block m c t) := out_eq _ _ _ _ _ _ c _ _ _ (block1 m c t) hpos
  rw [hout]
  obtain ⟨g, n, ch, rfl⟩ : ∃ (g : Fin 8) (n : Fin 4000) (ch : Fin 128), y = ix3 g n ch := ⟨_, _, _, eq_ix3 y⟩
  have he : (win0_2.blk t).view.emb (ix3 g n ch)
      = ix3 ⟨(grid0.coords t 0).val * 8 + g.val, by have := (grid0.coords t 0).isLt; have : (grid0.coords t 0).val < 8 := this; omega⟩ n ch := by
    have := idx_facts t
    blk_ext [this]
  rw [he]
  have hs : ser (block m c t) g ch = serA (argT m c)
      ⟨(grid0.coords t 0).val * 8 + g.val, by have := (grid0.coords t 0).isLt; have : (grid0.coords t 0).val < 8 := this; omega⟩ ch := by
    funext k
    unfold ser serA
    by_cases hk : k < 4000
    · rw [dif_pos hk, dif_pos hk, block0]
    · rw [dif_neg hk, dif_neg hk]
  show Pcen.rootS (block m c t (ix3 g n ch)) (Pcen.gainS (Pcen.ema (ser (block m c t) g ch) (n.val + 1))) = _
  rw [hs, block0]
  rfl

end Cert.KernelIdeal.Body

end
-- ==== Proof.KRun.lean ====
/- The kernel program's result: its output array with channels before time again. -/
module

public import proofs.«01_k».proof.Proof.KArray

@[expose] public section

set_option maxRecDepth 16384

noncomputable section

namespace Cert.KernelIdeal.Body

open Idealize.ShloMosaic Idealize.ShloMosaic.TcCoe Idealize.ShloMosaic.Tactic
open Cert.KernelIdeal Cert.KernelIdeal.Gen

variable (m : (ℓ : Loc nD τ sig) → Buf (Elt Ideal) ℓ) (ρ : Dev nD → PrngReg)

/-- What the program returns, of its output array. -/
def result (X : FVec Ideal S64x4000x128 .f32) : FVec Ideal S64x128x4000 .f32 :=
  transpose S64x128x4000 [0, 2, 1] X transposes_S64x4000x128_S64x128x4000_0_2_1

/-- The result buffer after the last host line. -/
theorem tail_result (c : Dev nD) : Pipeline.afterTail₀ cfgs (dats m) 0 (V0 m) [hostOps1] c main_v31 = result ((dats m 0 c).arrAt 2 (cfgs 0).N) := by
  unfold Pipeline.afterTail₀
  simp only [hostOps1, List.flatten_cons, List.flatten_nil, List.append_nil, StableHlo.after_cons, StableHlo.after_nil]
  rw [StableHlo.unary_result]
  exact congrArg result (Pipeline.withArrays_arr spec0 launch0.win.arr_inj c (V0 m c) (fun w => (dats m 0 c).arrAt w (cfgs 0).N) 2)

/-- Every run of the kernel program ends with the result and the argument as it was. -/
theorem run_result (hx : ∀ c j, 0 ≤ argT m c j) :
    θ_run (defs (F := Ideal)) (onTc (τ := τ) (main (F := Ideal))) ⟨m, fun _ => 0, ρ⟩ (fun r => ∀ c : Dev nD,
      r.2.mem ((c.tc : Thread nD τ).loc main_v31) = result (arrOut (argT m c))
        ∧ r.2.mem ((c.tc : Thread nD τ).loc main_arg0) = m ((c.tc : Thread nD τ).loc main_arg0)) :=
  (θ_run defs _ _).mono (fun _ h c =>
    ⟨((h c).2 main_v31 (Pipeline.mem_restRefs_of main_v31 (by decide) (by decide))).trans ((tail_result m c).trans (congrArg result (arr_eq m c (hx c)))),
      ((h c).2 main_arg0 (Pipeline.mem_restRefs_of main_arg0 (by decide) (by decide))).trans (W_main_arg0 m (dats m) c)⟩) (run_main m ρ)

end Cert.KernelIdeal.Body

end
-- ==== Proof.RefStep.lean ====
/- One trip of the reference's loop, read at an index. -/
module

public import proofs.«01_k».proof.Proof.Gen.ReferenceIdeal.Step
public import proofs.«01_k».proof.Proof.Point
public import proofs.«01_k».proof.Proof.Ema
public import Idealize.ShloMosaic.Lib.Pointwise
public import Idealize.ShloMosaic.Lib.DynamicIndex
public import Idealize.ShloMosaic.Lib.Pipeline.Value

@[expose] public section

set_option maxRecDepth 16384

noncomputable section

namespace Cert.ReferenceIdeal.Scan

open Idealize.ShloMosaic Idealize.ShloMosaic.TcCoe Idealize.ShloMosaic.Tactic
open Cert.ReferenceIdeal Cert.ReferenceIdeal.Gen Cert.ReferenceIdeal.Step

/-- The start of trip `j`'s row on each axis. -/
theorem start_eq (j : ℕ) (hj : j < 4000) (a : Fin 3) :
    (((![(constantI S_ 32 (BitVec.ofNat 32 j) : IVec S_ 32), constantI S_ 32 0#32, constantI S_ 32 0#32] : Fin 3 → IVec S_ 32) a
      (Shape.Idx.first h_S_)).toInt) = ((![j, 0, 0] : Fin 3 → ℕ) a : ℤ) := by
  fin_cases a
  · exact toInt_ofNat_of_lt (by omega)
  · rfl
  · rfl

/-- Row `j` lies inside the array. -/
theorem row_fits (j : ℕ) (hj : j < 4000) : S4000x64x128.Slices ![j, 0, 0] S1x64x128 := by
  refine ⟨rfl, fun a => ?_⟩
  fin_cases a <;> simp [Shape.size]
  omega

/-- A row with its time axis dropped. -/
theorem cast_row_apply (v : FVec Ideal S1x64x128 .f32) (b : Fin 64) (ch : Fin 128) :
    shapeCast S64x128 v shapeCasts_S1x64x128_S64x128 (ix2 b ch) = v (ix3 0 b ch) := by
  pointwise

/-- The row that trip `j` reads. -/
theorem b3_apply (j : ℕ) (hj : j < 4000) (s : State Ideal) (b : Fin 64) (ch : Fin 128) :
    (b3 j s : FVec Ideal S64x128 .f32) (ix2 b ch) = (s.main_v3_0 : FVec Ideal S4000x64x128 .f32) (ix3 ⟨j, hj⟩ b ch) := by
  unfold b3
  rw [cast_row_apply]
  unfold b2 b0 b1
  rw [Host.dynamicSlice_eq_extractStridedSlice S1x64x128 _ _ ![j, 0, 0] _ (row_fits j hj) (start_eq j hj)]
  unfold extractStridedSlice
  refine congrArg s.main_v3_0 ?_
  funext a
  apply Fin.ext
  fin_cases a <;> simp [ix3]

/-- The average that trip `j` makes. -/
theorem b10_apply (j : ℕ) (s : State Ideal) (i : S64x128.Idx) :
    (b10 j s : FVec Ideal S64x128 .f32) i
      = (Pcen.cR : EReal) * (s.main_v3_2 : FVec Ideal S64x128 .f32) i + (Pcen.sR : EReal) * (b3 j s : FVec Ideal S64x128 .f32) i := by
  rw [← Pcen.ofBits_c, ← Pcen.ofBits_s]
  rfl

/-- The compressed row that trip `j` makes. -/
theorem b26_apply (j : ℕ) (s : State Ideal) (i : S64x128.Idx) :
    (b26 j s : FVec Ideal S64x128 .f32) i = Pcen.refS ((b3 j s : FVec Ideal S64x128 .f32) i) ((b10 j s : FVec Ideal S64x128 .f32) i) := rfl

/-- A row put at time `j` of an array. -/
theorem put_row_apply (j : ℕ) (hj : j < 4000) (X : FVec Ideal S4000x64x128 .f32) (v : FVec Ideal S64x128 .f32) (t : Fin 4000) (b : Fin 64) (ch : Fin 128) :
    updateSlice X (broadcastInDim S1x64x128 ![1, 2] bcast_S64x128_S1x64x128_1_2 v) ![j, 0, 0] (row_fits j hj) (ix3 t b ch)
      = if t.val = j then v (ix2 b ch) else X (ix3 t b ch) := by
  unfold updateSlice
  by_cases h : t.val = j
  · rw [if_pos h, dif_pos]
    · pointwise
    · intro a
      fin_cases a <;> simp [ix3, Shape.size] <;> omega
  · rw [if_neg h, dif_neg]
    intro hin
    have := hin 0
    simp [ix3, Shape.size] at this
    omega

/-- The array that trip `j` leaves: its row at time `j`, the rest as found. -/
theorem b30_apply (j : ℕ) (hj : j < 4000) (s : State Ideal) (t : Fin 4000) (b : Fin 64) (ch : Fin 128) :
    (b30 j s : FVec Ideal S4000x64x128 .f32) (ix3 t b ch)
      = if t.val = j then (b26 j s : FVec Ideal S64x128 .f32) (ix2 b ch) else (s.main_v3_3 : FVec Ideal S4000x64x128 .f32) (ix3 t b ch) := by
  unfold b30 b28 b29 b27
  rw [Host.dynamicUpdateSlice_eq_updateSlice _ _ _ _ ![j, 0, 0] (fun a => ?_) (row_fits j hj)]
  · exact put_row_apply j hj _ _ t b ch
  · rw [start_eq j hj a]
    fin_cases a
    · show (min (max (j : ℤ) 0) ((4000 - 1 : ℕ) : ℤ)).toNat = j
      omega
    · rfl
    · rfl

end Cert.ReferenceIdeal.Scan

end
-- ==== Proof.RefLoop.lean ====
/- The reference program's run as its loop's trips: the result is that of the state after 4000 trips. -/
module

public import proofs.«01_k».proof.Proof.Gen.ReferenceIdeal.Run
public import proofs.«01_k».proof.Proof.Gen.ReferenceIdeal.Step

@[expose] public section

set_option maxRecDepth 16384

noncomputable section

namespace Cert.ReferenceIdeal.Scan

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State)

variable {F : FTy → Type} [FloatOps F]

/-- The buffers hold a state, and the counter the trip's number. -/
structure Carries (V : Valuation τ sig (Elt F)) (s : State F) (j : ℕ) : Prop where
  avg : V (Proc.devRef .tc main_v3_2) = s.main_v3_2
  out : V (Proc.devRef .tc main_v3_3) = s.main_v3_3
  vals : V (Proc.devRef .tc main_v3_0) = s.main_v3_0
  num : V (Proc.devRef .tc main_v3_1) = constantI S_ 32 (BitVec.ofNat 32 j)

variable {V : Valuation τ sig (Elt F)} {s : State F} {j : ℕ}

/-- The row that the trip reads. -/
theorem row_of (h : Carries V s j) : res_main_while0b_v5 V = Step.b3 j s := by
  unfold res_main_while0b_v5
  rw [h.vals, h.num]
  rfl

/-- The average that the trip makes. -/
theorem avg_of (h : Carries V s j) : res_main_while0b_v10 V = Step.b10 j s := by
  unfold res_main_while0b_v10
  rw [row_of h, h.avg]
  rfl

/-- The array that the trip leaves. -/
theorem out_of (h : Carries V s j) : step_main_v3_3 V = Step.b30 j s := by
  unfold step_main_v3_3
  rw [row_of h, avg_of h, h.out, h.num]
  rfl

/-- The next trip's number. -/
theorem num_of (h : Carries V s j) : step_main_v3_1 V = constantI S_ 32 (BitVec.ofNat 32 (j + 1)) := by
  unfold step_main_v3_1
  rw [h.num, BitVec.ofNat_add]
  rfl

/-- A trip takes a state to the next. -/
theorem carries_step (h : Carries V s j) : Carries (STEP V) (Step.step j s) (j + 1) :=
  ⟨(STEP_main_v3_2 V).trans (avg_of h), (STEP_main_v3_3 V).trans (out_of h), (STEP_main_v3_0 V).trans h.vals, (STEP_main_v3_1 V).trans (num_of h)⟩

variable (m : (ℓ : Loc nD τ sig) → Buf (Elt F) ℓ)

/-- The loop is entered with the first state. -/
theorem carries_entry (c : Dev nD) : Carries (entryContents preI m c) (Step.init (m ((c.tc : Thread nD τ).loc main_arg0))) 0 := by
  constructor <;> (simp only [entryContents, afterL_cons, afterL_nil]; after_reads_simp) <;> rfl

/-- The state after `k` trips from an argument. -/
def iter (X : (⟨S64x128x4000, .f32⟩ : BufTy).Contents (Elt F)) (k : ℕ) : State F := Nat.rec (Step.init X) (fun n s => Step.step n s) k

/-- After `k` trips the buffers hold the state after `k` trips. -/
theorem carries_iter (c : Dev nD) : ∀ k, Carries (STEP^[k] (entryContents preI m c)) (iter (m ((c.tc : Thread nD τ).loc main_arg0)) k) k
  | 0 => carries_entry m c
  | k + 1 => by
    rw [Function.iterate_succ_apply']
    exact carries_step (carries_iter c k)

/-- Every run of the reference ends with the result of the last state and the argument as it was. -/
theorem run_last (ρ : Dev nD → PrngReg) :
    θ_run (defs (F := F)) (onTc (τ := τ) (main (F := F))) ⟨m, fun _ => 0, ρ⟩ fun r => ∀ c : Dev nD,
      r.2.mem ((c.tc : Thread nD τ).loc main_v4) = Step.R_main_v4 (iter (m ((c.tc : Thread nD τ).loc main_arg0)) 4000)
        ∧ r.2.mem ((c.tc : Thread nD τ).loc main_arg0) = m ((c.tc : Thread nD τ).loc main_arg0) :=
  (θ_run defs _ _).mono (fun _ h c => ⟨(h c).1.trans (by unfold out_main_v4 Step.R_main_v4; rw [(carries_iter m c 4000).out]), (h c).2⟩) (Value.run m ρ)

end Cert.ReferenceIdeal.Scan

end
-- ==== Proof.RefRun.lean ====
/- The reference's loop: after `k` trips, the average of the first `k` values and the first `k` rows compressed. -/
module

public import proofs.«01_k».proof.Proof.RefStep
public import proofs.«01_k».proof.Proof.RefLoop

@[expose] public section

set_option maxRecDepth 16384

noncomputable section

namespace Cert.ReferenceIdeal.Scan

open Idealize.ShloMosaic Idealize.ShloMosaic.TcCoe Idealize.ShloMosaic.Tactic
open Cert.ReferenceIdeal Cert.ReferenceIdeal.Gen Cert.ReferenceIdeal.Step

/-- The series of batch `b` and channel `ch`, zero past its end. -/
def ser (X : FVec Ideal S64x128x4000 .f32) (b : Fin 64) (ch : Fin 128) (n : ℕ) : EReal :=
  if h : n < 4000 then X (ix3 b ch ⟨n, h⟩) else 0

/-- What the reference computes: each value compressed by the average up to it. -/
def refOut (X : FVec Ideal S64x128x4000 .f32) (y : S64x128x4000.Idx) : EReal :=
  Pcen.refS (X y) (Pcen.ema (ser X (y 0) (y 1)) ((y 2).val + 1))

variable (X : FVec Ideal S64x128x4000 .f32)

/-- The values that the loop reads stay as they were. -/
theorem it_values : ∀ k, (iter (F := Ideal) X k).main_v3_0 = A_main_v0 (F := Ideal) X
  | 0 => rfl
  | k + 1 => it_values k

/-- The row that trip `k` reads is the series at time `k`. -/
theorem it_row (k : ℕ) (hk : k < 4000) (b : Fin 64) (ch : Fin 128) : (b3 (F := Ideal) k (iter (F := Ideal) X k) : FVec Ideal S64x128 .f32) (ix2 b ch) = ser X b ch k := by
  rw [b3_apply k hk, it_values, ser, dif_pos hk]
  unfold A_main_v0
  pointwise

/-- The loop's average is the moving average. -/
theorem it_avg (b : Fin 64) (ch : Fin 128) : ∀ k, k ≤ 4000 → ((iter (F := Ideal) X k).main_v3_2 : FVec Ideal S64x128 .f32) (ix2 b ch) = Pcen.ema (ser X b ch) k
  | 0, _ => Ideal.ofBits_zero_f32
  | k + 1, hk => by
    show ((step k (iter (F := Ideal) X k)).main_v3_2 : FVec Ideal S64x128 .f32) (ix2 b ch) = _
    rw [step_main_v3_2, b10_apply, it_avg b ch k (by omega), it_row X k hk]
    rfl

/-- The rows that the loop has stored. -/
theorem it_out (t : Fin 4000) (b : Fin 64) (ch : Fin 128) : ∀ k, k ≤ 4000 → t.val < k →
    ((iter (F := Ideal) X k).main_v3_3 : FVec Ideal S4000x64x128 .f32) (ix3 t b ch) = refOut X (ix3 b ch t)
  | 0, _, h => absurd h (Nat.not_lt_zero _)
  | k + 1, hk, h => by
    show ((step k (iter (F := Ideal) X k)).main_v3_3 : FVec Ideal S4000x64x128 .f32) (ix3 t b ch) = _
    rw [step_main_v3_3, b30_apply k hk]
    by_cases he : t.val = k
    · have hm : (b10 (F := Ideal) k (iter (F := Ideal) X k) : FVec Ideal S64x128 .f32) (ix2 b ch) = Pcen.ema (ser X b ch) (k + 1) := it_avg X b ch (k + 1) hk
      rw [if_pos he, b26_apply, hm, it_row X k hk]
      subst he
      unfold refOut
      rw [ser, dif_pos t.isLt]
      rfl
    · rw [if_neg he]
      exact it_out t b ch k (by omega) (by omega)

/-- What the reference returns. -/
theorem result_eq : R_main_v4 (F := Ideal) (iter (F := Ideal) X 4000) = refOut X := by
  funext y
  obtain ⟨b, ch, t, rfl⟩ : ∃ (b : Fin 64) (ch : Fin 128) (t : Fin 4000), y = ix3 b ch t := ⟨_, _, _, eq_ix3 y⟩
  rw [← it_out X t b ch 4000 le_rfl t.isLt]
  unfold R_main_v4
  generalize (iter (F := Ideal) X 4000).main_v3_3 = Y
  pointwise

end Cert.ReferenceIdeal.Scan

end
-- ==== Proof.Tie.lean ====
/- The equation: on a nonnegative argument the kernel's result is the reference's. -/
module

public import proofs.«01_k».proof.Proof.KRun
public import proofs.«01_k».proof.Proof.RefRun

@[expose] public section

set_option maxRecDepth 16384

noncomputable section

namespace Cert.Pcen

open Idealize.ShloMosaic Idealize.ShloMosaic.TcCoe Idealize.ShloMosaic.Tactic

/-- The argument with time before channels, as the kernel program hands it on. -/
def swapped (X : FVec Ideal Cert.KernelIdeal.S64x128x4000 .f32) : FVec Ideal Cert.KernelIdeal.S64x4000x128 .f32 :=
  transpose Cert.KernelIdeal.S64x4000x128 [0, 2, 1] X Cert.KernelIdeal.Gen.facts.transposes_S64x128x4000_S64x4000x128_0_2_1

/-- It holds the same values, time and channel exchanged. -/
theorem swapped_apply (X : FVec Ideal Cert.KernelIdeal.S64x128x4000 .f32) (b : Fin 64) (t : Fin 4000) (ch : Fin 128) :
    swapped X (ix3 b t ch) = X (ix3 b ch t) := by
  unfold swapped
  pointwise

/-- The two series are one. -/
theorem ser_eq (X : FVec Ideal Cert.KernelIdeal.S64x128x4000 .f32) (b : Fin 64) (ch : Fin 128) :
    Cert.KernelIdeal.Body.serA (swapped X) b ch = Cert.ReferenceIdeal.Scan.ser X b ch := by
  funext n
  unfold Cert.KernelIdeal.Body.serA Cert.ReferenceIdeal.Scan.ser
  by_cases h : n < 4000
  · rw [dif_pos h, dif_pos h, swapped_apply]
  · rw [dif_neg h, dif_neg h]

/-- What the kernel program returns, at an element. -/
theorem result_apply (Y : FVec Ideal Cert.KernelIdeal.S64x4000x128 .f32) (b : Fin 64) (ch : Fin 128) (t : Fin 4000) :
    Cert.KernelIdeal.Body.result Y (ix3 b ch t) = Y (ix3 b t ch) := by
  unfold Cert.KernelIdeal.Body.result
  pointwise

/-- The kernel's result is the reference's. -/
theorem tie (X : FVec Ideal Cert.KernelIdeal.S64x128x4000 .f32) (hX : ∀ j, 0 ≤ X j) :
    Cert.KernelIdeal.Body.result (Cert.KernelIdeal.Body.arrOut (swapped X)) = Cert.ReferenceIdeal.Scan.refOut X := by
  funext y
  obtain ⟨b, ch, t, rfl⟩ : ∃ (b : Fin 64) (ch : Fin 128) (t : Fin 4000), y = ix3 b ch t := ⟨_, _, _, eq_ix3 y⟩
  rw [result_apply]
  show rootS (swapped X (ix3 b t ch)) (gainS (ema (Cert.KernelIdeal.Body.serA (swapped X) b ch) (t.val + 1)))
    = refS (X (ix3 b ch t)) (ema (Cert.ReferenceIdeal.Scan.ser X b ch) (t.val + 1))
  have hs : ∀ n, 0 ≤ Cert.ReferenceIdeal.Scan.ser X b ch n := by
    intro n
    unfold Cert.ReferenceIdeal.Scan.ser
    split
    · exact hX _
    · exact le_rfl
  have hv : Cert.ReferenceIdeal.Scan.ser X b ch t.val = X (ix3 b ch t) := by
    unfold Cert.ReferenceIdeal.Scan.ser
    rw [dif_pos t.isLt]
  rw [ser_eq, swapped_apply]
  exact point_eq _ _ (hX _) (ema_nonneg hs _) fun h => ema_top hs (hv.trans h)

end Cert.Pcen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_nonneg
public import proofs.«01_k».proof.Proof.Gen.ReferenceIdeal.Run
public import proofs.«01_k».proof.Proof.Tie
public import Idealize.ShloMosaic.Lib.Quiescent
public import Idealize.ShloMosaic.Lib.ReduceAll
public import Idealize.ShloMosaic.Adequacy
public import Idealize.ShloMosaic.Init

@[expose] public section

noncomputable section

namespace Cert.Proof

open Idealize.ShloMosaic Idealize.SL.Sem

/-- A shape without axes has one index. -/
instance scalarIdx : Subsingleton Cert.Pre_nonneg.S_.Idx := ⟨fun a b => funext fun d => d.elim0⟩

/-- The precondition says that no element of the argument is negative. -/
theorem nonneg_of_pre (X : FVec Ideal Cert.Pre_nonneg.S64x128x4000 .f32)
    (h : Cert.Pre_nonneg.fn (F := Ideal) X = fun _ => 1#1) (j : Cert.Pre_nonneg.S64x128x4000.Idx) : 0 ≤ X j := by
  have e := congrFun h (fun d => d.elim0)
  dsimp only [Cert.Pre_nonneg.fn] at e
  have q := Host.reduce_andi_all _ _ _ _ _ e j
  change BitVec.ofBool (decide (((Ideal.ofBits .f32 0x00000000#32 : Ideal .f32) : EReal) ≤ X j)) = 1#1 at q
  have z : (Ideal.ofBits .f32 0x00000000#32 : EReal) = 0 := by simp
  rw [z] at q
  by_contra hn
  rw [decide_eq_false hn] at q
  exact absurd q (by decide)

/-- Time before channels, still no element is negative. -/
theorem swapped_nonneg (X : FVec Ideal Cert.KernelIdeal.S64x128x4000 .f32) (hX : ∀ j, 0 ≤ X j)
    (j : Cert.KernelIdeal.S64x4000x128.Idx) : 0 ≤ Cert.Pcen.swapped X j := by
  obtain ⟨b, t, ch, rfl⟩ : ∃ (b : Fin 64) (t : Fin 4000) (ch : Fin 128), j = ix3 b t ch := ⟨_, _, _, eq_ix3 j⟩
  rw [Cert.Pcen.swapped_apply]
  exact hX _

/-- The reference ends with its argument as it was and every counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono
    (fun r h => ⟨fun c => (h c).2, sem_eq_zero_of_no_sems (by decide) r.2⟩) (Cert.ReferenceIdeal.Scan.run_last m ρ)

/-- From equal nonnegative arguments the kernel and the reference end with equal results. -/
theorem equal : Cert.algebraic_KernelIdeal_ReferenceIdeal_pre_nonneg := by
  intro m g m' g' hp he
  have hn : ∀ (c : Dev Cert.KernelIdeal.nD) (j : Cert.KernelIdeal.S64x128x4000.Idx),
      (0 : EReal) ≤ (m ((c.tc : Thread Cert.KernelIdeal.nD Cert.KernelIdeal.τ).loc Cert.KernelIdeal.main_arg0) : FVec Ideal Cert.KernelIdeal.S64x128x4000 .f32) j :=
    fun c j => nonneg_of_pre _ (hp c) j
  refine ⟨fun c => Cert.ReferenceIdeal.Scan.refOut (m ((c.tc : Thread Cert.KernelIdeal.nD Cert.KernelIdeal.τ).loc Cert.KernelIdeal.main_arg0)), ?_, ?_⟩
  · exact (θ_run Cert.KernelIdeal.defs _ _).mono (fun r h c => ⟨(h c).1.trans (Cert.Pcen.tie _ (hn c)), (h c).2⟩)
      (Cert.KernelIdeal.Body.run_result m g fun c j => swapped_nonneg _ (hn c) j)
  · refine (θ_run Cert.ReferenceIdeal.defs _ _).mono (fun r h c => ⟨(h c).1.trans ?_, (h c).2⟩) (Cert.ReferenceIdeal.Scan.run_last m' g')
    rw [he c]
    exact Cert.ReferenceIdeal.Scan.result_eq _

/-- Every claim of the certificate. -/
theorem claim : Cert.Claim :=
  ⟨Cert.Kernel.Gen.facts, Cert.KernelIdeal.Gen.facts, Cert.ReferenceIdeal.Gen.facts, Cert.Pre_nonneg.Gen.facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    IdealRules.named_const.statement _ _ .f32 _ _ rfl,
    equal⟩

end Cert.Proof

end
